-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1]⟩ ⟨2, ![2048, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S1024x1 : Shape := ⟨2, ![1024, 1]⟩
abbrev S8x128 : Shape := ⟨2, ![8, 128]⟩
abbrev S_ : Shape := ⟨0, ![]⟩
abbrev S8x128x512 : Shape := ⟨3, ![8, 128, 512]⟩
abbrev S128x8 : Shape := ⟨2, ![128, 8]⟩
abbrev S128x1 : Shape := ⟨2, ![128, 1]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1024x1, .f32⟩
  | .local _ .vmem, ⟨0, _⟩ => ⟨S1024x512, .f32⟩
  | .local _ .vmem, ⟨1, _⟩ => ⟨S1024x1, .f32⟩
  | .local _ .vmem, ⟨2, _⟩ => ⟨S8x128, .f32⟩
  | .local _ .vmem, ⟨3, _⟩ => ⟨S8x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v19 : BitVec 32 := Scalar.muli v2 c2_i32_10
  let v20 : BitVec 32 := Scalar.addi c0_i32_11 v19
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_12 : BitVec 32 := 1#32
  let v21 : BitVec 32 := Scalar.muli v6 c1_i32_12
  let v22 : BitVec 32 := Scalar.addi v20 v21
  v22.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x1024 : Shape := ⟨2, ![2048, 1024]⟩
abbrev S_ : Shape := ⟨0, ![]⟩
abbrev S2048 : Shape := ⟨1, ![2048]⟩
abbrev S2048x1 : Shape := ⟨2, ![2048, 1]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S_, .f32⟩
  | .hbm, ⟨2, _⟩ => ⟨S2048, .f32⟩
  | .hbm, ⟨3, _⟩ => ⟨S2048x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Exchange.lean ====
/-
# The exchange between two neighbours on the mesh's second axis

Each of the four devices holds half of the columns of its rows of `x`.  It reduces its own half to one maximum per
row (`part`, laid out as 8 rows of 128), sends that to the device holding the other half of the same rows, and
receives that device's.  The two devices of such a pair are each other's `peer`.

The exchange uses three counters on every device: the runtime's barrier (the peer announces that its receiving buffer
is free), the departure counter and the arrival counter of the copy.  This module names them, says what each unit
paid to them hands over (`sched`), what a device owes when it starts, and in which order the waits come (`lv`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.RowMax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state: one copy of the rounds library for the pipeline, one for the exchange -/

/-- The two side by side. -/
abbrev Ghost : Type := UR sig nD τ × URounds (GSem nD τ sig) Unit

local notation "𝕄" => MT nD τ sig Unit (Elt F) ℕ Ghost ℕ

/-- Where the pipeline's ghost state lives. -/
abbrev pipeG : Emb (UR sig nD τ) (MT nD τ sig Unit (Elt F) ℕ Ghost ℕ) := embL
/-- Where the exchange's ghost state lives. -/
abbrev exchG : Emb (URounds (GSem nD τ sig) Unit) (MT nD τ sig Unit (Elt F) ℕ Ghost ℕ) := embR

/-! ## The pairs -/

set_option backward.proofsInPublic true in
/-- The device in the same mesh row that holds the other half of the columns: the number with its last bit flipped. -/
def peer (c : Dev nD) : Dev nD := ⟨(2 * (c.val / 2) + 1) - c.val % 2, by have h : c.val < 4 := c.isLt; show _ < 4; omega⟩

/-- The peer's peer is the device itself. -/
theorem peer_peer (c : Dev nD) : peer (peer c) = c := by revert c; decide

/-- Swapping the two devices of every pair. -/
def swap : Dev nD ≃ Dev nD := ⟨peer, peer, peer_peer, peer_peer⟩

/-- The device that the body computes for its signal is the peer. -/
theorem signal_target (c : Dev nD) : (⟨k0_dev1 c, k0_dev1_lt c⟩ : Dev nD) = peer c := Fin.ext (k0_dev1_eq c)
theorem copy_target (c : Dev nD) : (⟨k0_dev2 c, k0_dev2_lt c⟩ : Dev nD) = peer c := Fin.ext (k0_dev2_eq c)

/-! ## Buffers and counters -/

/-- The staged half of the rows, the staged result, the device's own maxima, the received maxima. -/
abbrev xRef : Memref sig .tc .vmem S1024x512 .f32 := Memref.whole cc0_stg0_0
abbrev oRef : Memref sig .tc .vmem S1024x1 .f32 := Memref.whole cc0_stg1_0
abbrev mineRef : Memref sig .tc .vmem S8x128 .f32 := Memref.whole cc0_scratch0
abbrev theirsRef : Memref sig .tc .vmem S8x128 .f32 := Memref.whole cc0_scratch1

/-- The three counters of a device that the exchange uses: the barrier, the copy's departure, the copy's arrival. -/
inductive Ctr | bar | dep | arr
  deriving DecidableEq

instance : Fintype Ctr := ⟨{.bar, .dep, .arr}, fun k => by cases k <;> decide⟩

/-- The semaphore that is the counter. -/
def Ctr.sem : Ctr → SemLoc sig
  | .bar => .reg (SemArray.scalar (sig.barrier 0 rfl) : Sems sig S_).sem
  | .dep => .dma cc0_scratch2.sem
  | .arr => .dma cc0_scratch3.sem

/-- Which of the three counters a semaphore is, if any. -/
def ctrOf (s : SemLoc sig) : Option Ctr :=
  if s = Ctr.bar.sem then some .bar else if s = Ctr.dep.sem then some .dep else if s = Ctr.arr.sem then some .arr else none

/-- A counter's semaphore names that counter. -/
theorem ctrOf_sem (k : Ctr) : ctrOf k.sem = some k := by cases k <;> decide

/-- Device `c`'s counter `k`. -/
abbrev cell (c : Dev nD) (k : Ctr) : GSem nD τ sig := ((c : Thread nD τ), k.sem)

/-- Different counters, or counters of different devices, are different cells. -/
theorem cell_inj {c d : Dev nD} {k l : Ctr} (h : cell c k = cell d l) : c = d ∧ k = l := by
  have hk : ctrOf k.sem = ctrOf l.sem := congrArg (fun g : GSem nD τ sig => ctrOf g.2) h
  rw [ctrOf_sem, ctrOf_sem] at hk
  exact ⟨congrArg (fun g : GSem nD τ sig => g.1.1) h, Option.some.inj hk⟩

/-- The same for a device's cell. -/
theorem ctrOf_cell (c : Dev nD) (k : Ctr) : ctrOf (cell c k).2 = some k := ctrOf_sem k

/-- The units one copy of an 8 by 128 block pays. -/
abbrev unitsOf : ℕ := (theirsRef : Memref sig .tc .vmem S8x128 .f32).view.dmaCredit

/-- The units counter `k` gets in all. -/
def due : Ctr → ℕ
  | .bar => 1
  | .dep => unitsOf
  | .arr => unitsOf

/-- Every counter gets at least one unit. -/
theorem due_pos (k : Ctr) : 0 < due k := by
  cases k
  · exact Nat.one_pos
  all_goals exact View.dmaCredit_pos _ (by decide)

/-! ## Contents -/

variable (m : (ℓ : Loc nD τ sig) → Buf (Elt F) ℓ) (ρ : Dev nD → PrngReg)

/-- The block of `x` that device `c` is given, as staged for the kernel. -/
def xBlk (c : Dev nD) : (cc0_stg0_0 : Ref sig .tc).ty.Contents (Elt F) :=
  (win0_0.blk (0 : Fin 1)).view.read (Elt F) (m ((c : Thread nD τ).loc main_arg0))

/-- Device `c`'s row maxima over its own half of the columns. -/
def part (c : Dev nD) : Vec F S8x128 .f32 := k0_pay10 (xBlk m c)

/-- Device `c`'s own-maxima buffer at contents `f`. -/
def mineAt (c : Dev nD) (f : Buf (Elt F) (mineRef.view.loc (c : Thread nD τ))) : sProp 𝕄 :=
  mineRef.view.loc (c : Thread nD τ) ↦{fullShare} f
/-- Device `c`'s received-maxima buffer at contents `f`. -/
def theirsAt (c : Dev nD) (f : Buf (Elt F) (theirsRef.view.loc (c : Thread nD τ))) : sProp 𝕄 :=
  theirsRef.view.loc (c : Thread nD τ) ↦{fullShare} f

/-! ## What is paid, and what it hands over -/

/-- What the units on device `c`'s counter `k` hand `c`: on the barrier, the peer's receiving buffer and that the
    peer's arrival counter is fresh; on the departure counter, `c`'s own maxima back; on the arrival counter, the
    peer's maxima in `c`'s receiving buffer. -/
def handed (c : Dev nD) : Ctr → sProp 𝕄
  | .bar => iprop((∃ f, theirsAt (peer c) f) ∗ reached exchG (cell (peer c) .arr) 0)
  | .dep => mineAt c (part m c)
  | .arr => theirsAt c (part m (peer c))

instance handed_storable (c : Dev nD) (k : Ctr) : BI.Storable (upEmb : UEmb _ 𝕄) (handed m c k) := by
  cases k
  · unfold handed theirsAt; infer_instance
  · unfold handed mineAt; infer_instance
  · unfold handed theirsAt; infer_instance

/-- Every counter of the exchange is paid once, in round 0, by one duty. -/
def sched : Rounds.Schedule (GSem nD τ sig) Unit 𝕄 where
  duties g r := if r = 0 ∧ g.1.2 = .tc ∧ (ctrOf g.2).isSome then {()} else ∅
  unitless _ := False
  amount g _ _ := (ctrOf g.2).elim 1 due
  payload g _ _ := match ctrOf g.2 with
    | some k => handed m g.1.1 k
    | none => iprop(emp)
  amount_pos g _ _ _ := by
    cases h : ctrOf g.2 with
    | none => exact Nat.one_pos
    | some k => exact due_pos k

instance sched_storable (g : GSem nD τ sig) (r : ℕ) (d : Unit) : BI.Storable (upEmb : UEmb _ 𝕄) ((sched m).payload g r d) := by
  show BI.Storable upEmb (match ctrOf g.2 with
    | some k => handed m g.1.1 k
    | none => iprop(emp))
  split <;> infer_instance

/-- In its one round a counter has one payment due. -/
theorem duties_cell (c : Dev nD) (k : Ctr) : (sched m).duties (cell c k) 0 = {()} :=
  if_pos ⟨rfl, rfl, by rw [ctrOf_cell]; rfl⟩

/-- After that round nothing is due. -/
theorem duties_after (g : GSem nD τ sig) (r : ℕ) (hr : 1 ≤ r) : (sched m).duties g r = ∅ :=
  if_neg fun h => by have := h.1; omega

/-- That payment is all of the counter's units. -/
theorem amount_cell (c : Dev nD) (k : Ctr) (d : Unit) : (sched m).amount (cell c k) 0 d = due k := by
  show (ctrOf k.sem).elim 1 due = due k
  rw [ctrOf_sem]; rfl

/-- So the round expects that many units. -/
theorem expect_cell (c : Dev nD) (k : Ctr) : (sched m).expect (cell c k) 0 = due k := by
  unfold Schedule.expect Schedule.amountOf
  rw [duties_cell, Finset.sum_singleton, amount_cell]

/-- The payment hands over what `handed` says. -/
theorem payload_cell (c : Dev nD) (k : Ctr) (d : Unit) : (sched m).payload (cell c k) 0 d = handed m c k := by
  show (match ctrOf k.sem with
    | some k => handed m c k
    | none => iprop(emp)) = _
  rw [ctrOf_sem]

/-! ## Debts and the order of the waits -/

/-- What is left of `c`'s debt after its signal: the copy's units on the peer's arrival counter. -/
abbrev owesCopy (c : Dev nD) : CellTallies nD τ sig Unit := tallyAt (cell (peer c) .arr) () (due .arr)
/-- Device `c` starts owing its peer the copy's units and one unit on the barrier. -/
def owesAll (c : Dev nD) : CellTallies nD τ sig Unit := owesCopy c + tallyAt (cell (peer c) .bar) () (due .bar)

/-- Every counter of a TensorCore carries the one index there is. -/
def idxs (g : GSem nD τ sig) : Finset Unit := if g.1.2 = .tc then {()} else ∅

/-- Barriers are waited for before arrivals; everything else a device pays itself. -/
def lv (g : GSem nD τ sig) (_ : Unit) : ℕ := match ctrOf g.2 with
  | some .bar => 1
  | some .arr => 2
  | _ => 0

/-- Every semaphore of a device has its one place in the order of the waits. -/
theorem idxs_tc (c : Dev nD) (s : SemLoc sig) : () ∈ idxs ((c : Thread nD τ), s) := by
  unfold idxs; rw [if_pos rfl]; exact Finset.mem_singleton_self _

/-- The levels of the three counters: departure lowest, then the barrier, then arrival. -/
theorem lv_cell (c : Dev nD) (k : Ctr) (u : Unit) : lv (cell c k) u = match k with | .bar => 1 | .arr => 2 | .dep => 0 := by
  unfold lv; rw [ctrOf_cell]; cases k <;> rfl

/-- A device that owes only the copy may wait on its barrier. -/
theorem mayWait_bar (c : Dev nD) : (levAts idxs lv : sProp 𝕄) ⊢ MayWait (c : Thread nD τ) Ctr.bar.sem () (owesCopy c) :=
  Pipeline.mayWait_of_levAts (idxs_tc _ _) fun g i h => by
    obtain ⟨rfl, -⟩ := Pipeline.tallyAt_pos h
    exact ⟨idxs_tc _ _, by show lv (cell c .bar) () < lv (cell (peer c) .arr) i; rw [lv_cell, lv_cell]; decide⟩

/-- A device that owes everything, or nothing, may wait on a semaphore the exchange does not use. -/
theorem mayWait_other (c : Dev nD) (s : SemLoc sig) (hs : ctrOf s = none) (O : CellTallies nD τ sig Unit) (hO : O = owesAll c ∨ O = 0) :
    (levAts idxs lv : sProp 𝕄) ⊢ MayWait (c : Thread nD τ) s () O := by
  have hlv : lv ((c : Thread nD τ), s) () = 0 := by unfold lv; rw [hs]
  rcases hO with rfl | rfl
  · refine Pipeline.mayWait_of_levAts (idxs_tc _ _) fun g i h => ?_
    rw [hlv]
    rcases Pipeline.add_pos_cases h with h | h <;> obtain ⟨rfl, -⟩ := Pipeline.tallyAt_pos h
    all_goals exact ⟨idxs_tc _ _, by rw [lv_cell]; decide⟩
  · rw [MayWait_zero]; iintro -; iempintro

end Cert.RowMax

end
-- ==== Proof.Result.lean ====
/-
# What the eight stores leave in the result

The kernel takes the larger of the two row maxima (its own and the received ones), turns the 8 by 128 block on its side
and stores its eight columns below each other.  So row `i` of the result is entry `(i / 128, i % 128)` of the block of
larger maxima.  That is `outOf`; `stores_leave` says the eight stores leave exactly it, whatever the buffer held before.
-/
module

public import proofs.«01_k».proof.Proof.Exchange
public import Idealize.ShloMosaic.Lib.ValueIdxCore
public import Idealize.ShloMosaic.Lib.Pipeline.Value
public import Idealize.ShloMosaic.Lib.Pipeline.ValueKit.Geometry

@[expose] public section

noncomputable section

namespace Cert.RowMax

open Cert.KernelIdeal Cert.KernelIdeal.Gen
open Idealize.ShloMosaic Idealize.ShloMosaic.TcCoe
open Idealize.ShloMosaic.ValueIdx (ix2)

variable {F : FTy → Type} [FloatOps F]

/-- The offsets `0, 0` are all zero. -/
theorem off_zero : (![0, 0] : Fin 2 → ℕ) = fun _ => 0 := funext fun a => by fin_cases a <;> rfl

/-- Where row `y` of the result stands in the 8 by 128 block. -/
def spot (y : S1024x1.Idx) : S8x128.Idx :=
  ix2 ⟨(y 0).val / 128, by have h : (y 0).val < 1024 := (y 0).isLt; omega⟩ ⟨(y 0).val % 128, Nat.mod_lt _ (by decide)⟩

/-- The result of a device whose own maxima are `a` and whose received maxima are `b`. -/
def outOf (a b : Vec F S8x128 .f32) : Vec F S1024x1 .f32 := fun y => maximumf a b (spot y)

/-- Column `s` of the block on its side, read at a row, is what `outOf` has 128 · `s` rows further down. -/
theorem column_spot {α : Type} (w : S8x128.Idx → α) {s o : ℕ} (hs : s < 8) (ho : o = 128 * s) (h : S128x8.Slices ![0, s] S128x1)
    (inb : ∀ a, (![o, 0] : Fin 2 → ℕ) a + S128x1.size a ≤ S1024x1.size a) (x : S128x1.Idx) :
    extractStridedSlice S128x1 ![0, s] (transpose S128x8 [1, 0] w transposes_S8x128_p1_0_S128x8) h x
      = w (spot ((Rect.unit (s := S1024x1) ![o, 0] S128x1.size inb).emb x)) := by
  have hx : (x 0).val < 128 := (x 0).isLt
  have hx1 : (x 1).val < 1 := (x 1).isLt
  have he : (((Rect.unit (s := S1024x1) ![o, 0] S128x1.size inb).emb x) 0).val = o + (x 0).val :=
    ValueKit.rect_emb_unit_val _ _ _ _ _
  rw [extractStridedSlice_apply ![0, s] _ h x (ix2 (x 0) ⟨s, hs⟩ : S128x8.Idx) (fun a => by
      match a with
      | ⟨0, _⟩ => exact (Nat.zero_add _).symm
      | ⟨1, _⟩ => show s = s + (x 1).val; omega)]
  refine transpose_apply [1, 0] w _ _ _ fun b => ?_
  match b with
  | ⟨0, _⟩ => show (((Rect.unit (s := S1024x1) ![o, 0] S128x1.size inb).emb x) 0).val % 128 = (x 0).val; rw [he]; omega
  | ⟨1, _⟩ => show (((Rect.unit (s := S1024x1) ![o, 0] S128x1.size inb).emb x) 0).val / 128 = s; rw [he]; omega

/-- The eight stores leave the larger maxima, one per row. -/
theorem stores_leave (a b : Vec F S8x128 .f32) (f : Vec F S1024x1 .f32) :
    oRef.view.writes (Elt F) f
      [⟨Rect.unit ![896, 0] S128x1.size inb_S1024x1_S128x1_896_0, k0_pay9 a b⟩,
       ⟨Rect.unit ![768, 0] S128x1.size inb_S1024x1_S128x1_768_0, k0_pay8 a b⟩,
       ⟨Rect.unit ![640, 0] S128x1.size inb_S1024x1_S128x1_640_0, k0_pay7 a b⟩,
       ⟨Rect.unit ![512, 0] S128x1.size inb_S1024x1_S128x1_512_0, k0_pay6 a b⟩,
       ⟨Rect.unit ![384, 0] S128x1.size inb_S1024x1_S128x1_384_0, k0_pay5 a b⟩,
       ⟨Rect.unit ![256, 0] S128x1.size inb_S1024x1_S128x1_256_0, k0_pay4 a b⟩,
       ⟨Rect.unit ![128, 0] S128x1.size inb_S1024x1_S128x1_128_0, k0_pay3 a b⟩,
       ⟨Rect.unit ![0, 0] S128x1.size inb_S1024x1_S128x1_0_0, k0_pay2 a b⟩] = outOf a b := by
  funext y
  have key (L) (hL) (hy) : oRef.view.writes (Elt F) f L y = outOf a b y :=
    (congrFun (View.read_whole (Val := Elt F) cc0_stg1_0 _) y).symm.trans (View.read_writes_apply_of_pieces oRef.view f (outOf a b) L hL y hy)
  refine key _ ?_ ?_
  swap; exact View.cover_of_tiled _ ![128, 1] rfl y
  intro p hp
  simp only [List.mem_cons, List.not_mem_nil, or_false] at hp
  rcases hp with rfl | rfl | rfl | rfl | rfl | rfl | rfl | rfl
  · exact fun x => column_spot (maximumf a b) (o := 896) (s := 7) (by decide) rfl slices_S128x8_o0_7_S128x1 inb_S1024x1_S128x1_896_0 x
  · exact fun x => column_spot (maximumf a b) (o := 768) (s := 6) (by decide) rfl slices_S128x8_o0_6_S128x1 inb_S1024x1_S128x1_768_0 x
  · exact fun x => column_spot (maximumf a b) (o := 640) (s := 5) (by decide) rfl slices_S128x8_o0_5_S128x1 inb_S1024x1_S128x1_640_0 x
  · exact fun x => column_spot (maximumf a b) (o := 512) (s := 4) (by decide) rfl slices_S128x8_o0_4_S128x1 inb_S1024x1_S128x1_512_0 x
  · exact fun x => column_spot (maximumf a b) (o := 384) (s := 3) (by decide) rfl slices_S128x8_o0_3_S128x1 inb_S1024x1_S128x1_384_0 x
  · exact fun x => column_spot (maximumf a b) (o := 256) (s := 2) (by decide) rfl slices_S128x8_o0_2_S128x1 inb_S1024x1_S128x1_256_0 x
  · exact fun x => column_spot (maximumf a b) (o := 128) (s := 1) (by decide) rfl slices_S128x8_o0_1_S128x1 inb_S1024x1_S128x1_128_0 x
  · exact fun x => column_spot (maximumf a b) (o := 0) (s := 0) (by decide) rfl slices_S128x8_o0_0_S128x1 inb_S1024x1_S128x1_0_0 x

/-- The own-maxima buffer loaded as a whole is its contents. -/
theorem load_mine (f : Vec F S8x128 .f32) :
    View.readAt (Elt F) mineRef.view (Rect.unit ![0, 0] S8x128.size inb_S8x128_S8x128_0_0).toLoadRect f = f :=
  Memref.readAt_unit_zero (Elt F) cc0_scratch0 off_zero inb_S8x128_S8x128_0_0 f
/-- The same for the receiving buffer. -/
theorem load_theirs (f : Vec F S8x128 .f32) :
    View.readAt (Elt F) theirsRef.view (Rect.unit ![0, 0] S8x128.size inb_S8x128_S8x128_0_0).toLoadRect f = f :=
  Memref.readAt_unit_zero (Elt F) cc0_scratch1 off_zero inb_S8x128_S8x128_0_0 f

/-- The staged result of device `c` at the end. -/
def outAt (m : (ℓ : Loc nD τ sig) → Buf (Elt F) ℓ) (c : Dev nD) : (cc0_stg1_0 : Ref sig .tc).ty.Contents (Elt F) := outOf (part m c) (part m (peer c))

set_option maxRecDepth 4000 in
/-- A copy of the whole own-maxima buffer leaves its contents in the peer's receiving buffer. -/
theorem copied (f g : Vec F S8x128 .f32) :
    theirsRef.view.write (Elt F) f (mineRef.view.read (Elt F) g) Finset.univ = g :=
  View.write_whole_univ (Val := Elt F) cc0_scratch1 f g

/-- The one store into the own-maxima buffer leaves the device's maxima. -/
theorem mine_stored (m : (ℓ : Loc nD τ sig) → Buf (Elt F) ℓ) (c : Dev nD) (f : Buf (Elt F) (mineRef.view.loc (c : Thread nD τ))) :
    mineRef.view.writes (Elt F) f [⟨Rect.unit ![0, 0] S8x128.size inb_S8x128_S8x128_0_0,
        k0_pay10 (View.readAt (Elt F) xRef.view (Rect.unit ![0, 0] S1024x512.size inb_S1024x512_S1024x512_0_0).toLoadRect (xBlk m c))⟩]
      = part m c := by
  have hx : View.readAt (Elt F) xRef.view (Rect.unit ![0, 0] S1024x512.size inb_S1024x512_S1024x512_0_0).toLoadRect (xBlk m c) = xBlk m c :=
    Memref.readAt_unit_zero (Elt F) cc0_stg0_0 off_zero _ _
  rw [hx, View.writes_singleton]
  exact Memref.write_access_unit_zero_univ (Elt F) cc0_scratch0 off_zero inb_S8x128_S8x128_0_0 f (part m c)

end Cert.RowMax

end
-- ==== Proof.Body.lean ====
/-
# One device's run of the body

The body signals its peer, takes the maxima of its own columns, waits for the peer's signal, copies its maxima to the
peer, waits until its copy has left and the peer's has come, and stores the larger maxima.  `body_run` proves that run
from `opening` (what the launch gives) to `closing` (buffers filled, counters at zero).
-/
module

public import proofs.«01_k».proof.Proof.Result

@[expose] public section

noncomputable section

namespace Cert.RowMax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (m : (ℓ : Loc nD τ sig) → Buf (Elt F) ℓ) (ρ : Dev nD → PrngReg)

/-- The barrier's unit hands over the peer's receiving buffer and that the peer's arrival counter is fresh. -/
theorem payload_bar (c : Dev nD) (d : Unit) : (sched m).payload (cell c .bar) 0 d
    = iprop((∃ f : Buf (Elt F) (theirsRef.view.loc (peer c : Thread nD τ)), (theirsRef.view.loc (peer c : Thread nD τ)) ↦{fullShare} f)
        ∗ reached exchG (cell (peer c) .arr) 0) := payload_cell m c .bar d

/-- So a device hands over its own receiving buffer by the unit that it pays to its peer. -/
theorem payload_bar' (c : Dev nD) (d : Unit) : (sched m).payload (cell (peer c) .bar) 0 d
    = iprop((∃ f : Buf (Elt F) (theirsRef.view.loc (c : Thread nD τ)), (theirsRef.view.loc (c : Thread nD τ)) ↦{fullShare} f)
        ∗ reached exchG (cell c .arr) 0) := by
  rw [payload_bar, peer_peer]

/-- The departure counter gives the own maxima back. -/
theorem payload_dep (c : Dev nD) (d : Unit) : (sched m).payload (cell c .dep) 0 d
    = ((mineRef.view.loc (c : Thread nD τ)) ↦{fullShare} part m c : sProp 𝕄) := payload_cell m c .dep d

/-- The arrival counter gives the receiving buffer, filled with the peer's maxima. -/
theorem payload_arr (c : Dev nD) (d : Unit) : (sched m).payload (cell c .arr) 0 d
    = ((theirsRef.view.loc (c : Thread nD τ)) ↦{fullShare} part m (peer c) : sProp 𝕄) := payload_cell m c .arr d

attribute [local sl_rounds] duties_cell amount_cell expect_cell due payload_bar peer_peer payload_dep payload_arr
attribute [local sl_rounds high] payload_bar'
attribute [local sl_canon] signal_target

/-- The copy to the peer: it takes the own maxima and the peer's receiving buffer, settles the debt and leaves the credit
    for the departure counter. -/
theorem wp_copy (K : Dev nD × Ctr → ℕ) (c n : Dev nD) (hn : n = peer c) {hsc : (theirsRef : Memref sig (Dev.tc n : Thread nD τ).2.kind .vmem S8x128 .f32).view.ref.isScScratch = false}
    {hsrc : mineRef.view.WordExact} {hdst : theirsRef.view.WordExact}
    {hsem : DmaTarget.Typed .vmem (.dma cc0_scratch3.sem) (.remote (Dev.tc n : Thread nD τ) theirsRef (.dma cc0_scratch2.sem) hsc)}
    {α : Type} {Q : α → sProp 𝕄} {k : PUnit → Prog (TpuEff nD τ sig (Elt F) Λ₀ .tc) α}
    (f : Buf (Elt F) (theirsRef.view.loc (peer c : Thread nD τ))) (W : Waits sig Unit) :
    iprop(cellInv exchG (sched m) (K (c, .dep)) (cell c .dep) ∗ cellInv exchG (sched m) (K (peer c, .arr)) (cell (peer c) .arr)
        ∗ (mineRef.view.loc (c : Thread nD τ) ↦{fullShare} part m c) ∗ (theirsRef.view.loc (peer c : Thread nD τ) ↦{fullShare} f)
        ∗ owes (c : Thread nD τ) (owesCopy c) W
        ∗ dutyTok exchG (cell c .dep) 0 () ∗ reached exchG (cell c .dep) 0
        ∗ dutyTok exchG (cell (peer c) .arr) 0 () ∗ reached exchG (cell (peer c) .arr) 0)
      ⊢ iprop(((cred (tallyAt (cell c .dep) () unitsOf) ∗ owes (c : Thread nD τ) 0 W) -∗ wp frame (wpE (defs₀ (F := F)) Variants.none (c : Thread nD τ) none) Set.univ (k ⟨⟩) Q)
          -∗ wp frame (wpE (defs₀ (F := F)) Variants.none (c : Thread nD τ) none) Set.univ
              (.op (.enqueueDma mineRef (.remote (Dev.tc n : Thread nD τ) theirsRef (.dma cc0_scratch2.sem) hsc) (.dma cc0_scratch3.sem) hsrc hdst hsem) k) Q) := by
  subst hn
  have hm : mineRef.view.set = Finset.univ := View.set_whole _
  have ht : theirsRef.view.set = Finset.univ := View.set_whole _
  have h := Rounds.wp_send_pointsTo (defs := defs₀ (F := F)) Variants.none exchG (sched m) (c : Thread nD τ) none (c' := (peer c : Thread nD τ)) (κ₁ := K (c, .dep)) (κ₂ := K (peer c, .arr))
    (src := mineRef) (dst := theirsRef) (sS := .dma cc0_scratch2.sem) (sem := .dma cc0_scratch3.sem) (hsc := hsc) (hsrc := hsrc) (hdst := hdst) (hsem := hsem) (k := k) (Q := Q)
    (q := fullShare) (fs := part m c) (fd := f) (r₁ := 0) (r₂ := 0) (d₁ := ()) (d₂ := ())
    (by rw [show ((c : Thread nD τ), SemLoc.dma cc0_scratch2.sem) = cell c .dep from rfl, duties_cell]; exact Finset.mem_singleton_self _)
    (by rw [show ((peer c : Thread nD τ), SemLoc.dma cc0_scratch3.sem) = cell (peer c) .arr from rfl, duties_cell]; exact Finset.mem_singleton_self _)
    () () unitsOf rfl (amount_cell m c .dep ()) (amount_cell m (peer c) .arr ()) (O₀ := owesCopy c) 0 (by rw [zero_add]; rfl) (W := W)
    (by rw [show ((c : Thread nD τ), SemLoc.dma cc0_scratch2.sem) = cell c .dep from rfl, payload_cell, hm]; exact Entails.of_eq rfl)
    (by
      rw [show ((peer c : Thread nD τ), SemLoc.dma cc0_scratch3.sem) = cell (peer c) .arr from rfl, payload_cell, ht]
      unfold handed theirsAt
      rw [peer_peer, copied])
    (Es := Set.univ) (Γ := .empty)
  rw [hm, ht] at h
  exact h

/-! ## What a device holds at the start and at the end -/

/-- What every device knows: each counter of each device follows the schedule, and is fresh. -/
def records (K : Dev nD × Ctr → ℕ) : sProp 𝕄 :=
  iprop((bigSep Finset.univ fun p : Dev nD × Ctr => cellInv exchG (sched m) (K p) (cell p.1 p.2))
    ∗ bigSep Finset.univ fun p : Dev nD × Ctr => reached exchG (cell p.1 p.2) 0)

/-- Knowledge can be used any number of times. -/
instance records_persistent (K : Dev nD × Ctr → ℕ) : BI.Persistent (records m K) := by unfold records; infer_instance

/-- One counter's invariant, out of what every device knows. -/
theorem records_inv (K : Dev nD × Ctr → ℕ) (c : Dev nD) (k : Ctr) : records m K ⊢ cellInv exchG (sched m) (K (c, k)) (cell c k) := by
  unfold records
  iintro ⟨H, -⟩
  iapply (show (bigSep Finset.univ fun p : Dev nD × Ctr => cellInv exchG (sched m) (K p) (cell p.1 p.2)) ⊢ (cellInv exchG (sched m) (K (c, k)) (cell c k) : sProp 𝕄) from bigSep_elim (Finset.mem_univ (c, k)))
  iexact H

/-- One counter's freshness, out of what every device knows. -/
theorem records_fresh (K : Dev nD × Ctr → ℕ) (c : Dev nD) (k : Ctr) : records m K ⊢ reached exchG (cell c k) 0 := by
  unfold records
  iintro ⟨-, H⟩
  iapply (show (bigSep Finset.univ fun p : Dev nD × Ctr => (reached exchG (cell p.1 p.2) 0 : sProp 𝕄)) ⊢ (reached exchG (cell c k) 0 : sProp 𝕄) from bigSep_elim (Finset.mem_univ (c, k)))
  iexact H

/-- The rights to pay: the peer's barrier and arrival counter, and the own departure counter. -/
def payRights (c : Dev nD) : sProp 𝕄 :=
  iprop(dutyTok exchG (cell (peer c) .bar) 0 () ∗ dutyTok exchG (cell c .dep) 0 () ∗ dutyTok exchG (cell (peer c) .arr) 0 ())

/-- A device's positions at its own counters. -/
def positions (c : Dev nD) : sProp 𝕄 :=
  iprop(atPos exchG (cell c .bar) 0 ∅ 0 ∗ atPos exchG (cell c .dep) 0 ∅ 0 ∗ atPos exchG (cell c .arr) 0 ∅ 0)

/-- What a device may wait for without paying it itself: the barrier's unit and the arriving copy's units. -/
def incoming (c : Dev nD) : sProp 𝕄 := iprop(cred (tallyAt (cell c .bar) () 1) ∗ cred (tallyAt (cell c .arr) () unitsOf))

/-- What the launch gives device `c`. -/
def start (c : Dev nD) : sProp 𝕄 :=
  iprop((∃ K, records m K ∗ positions c ∗ payRights c) ∗ incoming c ∗ levAts idxs lv)

/-- Before the kernel: that, and both maxima buffers at any contents. -/
def opening (c : Dev nD) : sProp 𝕄 := iprop(start m c ∗ (∃ f, mineAt c f) ∗ ∃ f, theirsAt c f)

/-- After the kernel: both maxima buffers filled and the three counters back at zero. -/
def closing (c : Dev nD) : sProp 𝕄 :=
  iprop(mineAt c (part m c) ∗ theirsAt c (part m (peer c))
    ∗ semVal (cell c .bar) 0 ∗ semVal (cell c .dep) 0 ∗ semVal (cell c .arr) 0)

/-! ## The run of the body -/

set_option maxHeartbeats 1000000 in
/-- The body, from what the launch gives and the staged half of the rows: it leaves the larger maxima in the staged
    result, the staged input as it was, no debt, and what `closing` says. -/
theorem body_run (K : Dev nD × Ctr → ℕ) (c : Dev nD) (W : Waits sig Unit) (f1 : Buf (Elt F) (oRef.view.loc (c : Thread nD τ)))
    (f2 : Buf (Elt F) (mineRef.view.loc (c : Thread nD τ))) (f3 : Buf (Elt F) (theirsRef.view.loc (c : Thread nD τ))) (Q : PUnit → sProp 𝕄) :
    iprop((records m K ∗ positions c ∗ payRights c ∗ incoming c ∗ levAts idxs lv ∗ owes (c : Thread nD τ) (owesAll c) W
      ∗ (xRef.view.loc (c : Thread nD τ) ↦{fullShare} xBlk m c) ∗ (oRef.view.loc (c : Thread nD τ) ↦{fullShare} f1)
      ∗ (mineRef.view.loc (c : Thread nD τ) ↦{fullShare} f2) ∗ (theirsRef.view.loc (c : Thread nD τ) ↦{fullShare} f3))
      ∗ ((closing m c ∗ (∃ W', owes (c : Thread nD τ) 0 W')
          ∗ (xRef.view.loc (c : Thread nD τ) ↦{fullShare} xBlk m c) ∗ (oRef.view.loc (c : Thread nD τ) ↦{fullShare} outAt m c)) -∗ Q ⟨⟩))
      ⊢ wp frame (wpE (defs₀ (F := F)) Variants.none c none) Set.univ
          (cc0_body xRef (Memref.isWhole_whole _) oRef (Memref.isWhole_whole _) mineRef (Memref.isWhole_whole _) theirsRef (Memref.isWhole_whole _) cc0_scratch2 cc0_scratch3) Q := by
  have hmw := mayWait_bar (F := F) c
  unfold positions payRights incoming
  rw [show owesAll c = tallyAt (cell (peer c) .arr) () unitsOf + tallyAt (cell (peer c) .bar) () 1 from rfl]
  iintro ⟨⟨#HK, ⟨Hb, Hd, Ha⟩, ⟨Tbp, Td, Tap⟩, ⟨Cb, Ca⟩, #Lev, HO, Hx, Ho, Hm, Ht⟩, Hk⟩
  ihave #Ib := (records_inv m K c .bar) $$ HK
  ihave #Id := (records_inv m K c .dep) $$ HK
  ihave #Ia := (records_inv m K c .arr) $$ HK
  ihave #Ibp := (records_inv m K (peer c) .bar) $$ HK
  ihave #Iap := (records_inv m K (peer c) .arr) $$ HK
  ihave #Rbp := (records_fresh m K (peer c) .bar) $$ HK
  ihave #Rd := (records_fresh m K c .dep) $$ HK
  ihave #Ra := (records_fresh m K c .arr) $$ HK
  rw [cc0_body_eq_skeleton]; unfold cc0_body_skel
  rw [k0_part1_eq_skeleton]; unfold k0_part1_skel
  sl_exec
  rw [mine_stored]
  iapply (wp_copy m K c _ (copy_target c) Hb_pay1_v (insert (SemLoc.reg (SemArray.scalar (sig.barrier 0 rfl) : Sems sig S_).sem, ()) W)) $$ [Hm Hb_pay1 HO Tap Td Hb_pay2]
  · isplitr; · iexact Id
    isplitr; · iexact Iap
    isplitl [Hm]; · iexact Hm
    isplitl [Hb_pay1]; · iexact Hb_pay1
    isplitl [HO]; · iexact HO
    isplitl [Td]; · iexact Td
    isplitr; · iexact Rd
    isplitl [Tap]; · iexact Tap
    iexact Hb_pay2
  iintro ⟨Cd, HO⟩
  sl_exec
  rw [load_mine, load_theirs, stores_leave]
  imod (Rounds.cell_close exchG (sched m) (Set.mem_univ (K (c, .bar))) (fun h => h) (R := 0 + 1) (duties_after m _)) $$ [Hb] with Zb
  · isplitr; · iexact Ib
    iexact Hb
  imod (Rounds.cell_close exchG (sched m) (Set.mem_univ (K (c, .dep))) (fun h => h) (R := 0 + 1) (duties_after m _)) $$ [Hd] with Zd
  · isplitr; · iexact Id
    iexact Hd
  imod (Rounds.cell_close exchG (sched m) (Set.mem_univ (K (c, .arr))) (fun h => h) (R := 0 + 1) (duties_after m _)) $$ [Ha] with Za
  · isplitr; · iexact Ia
    iexact Ha
  rw [wp_ret]; imodintro
  iapply Hk
  unfold closing mineAt theirsAt outAt
  isplitl [Hd_pay1 Ha_pay1 Zb Zd Za]
  · isplitl [Hd_pay1]; · iexact Hd_pay1
    isplitl [Ha_pay1]; · iexact Ha_pay1
    isplitl [Zb]; · iexact Zb
    isplitl [Zd]; · iexact Zd
    iexact Za
  isplitl [HO]; · iexists _; iexact HO
  isplitl [Hx]; · iexact Hx
  iexact Ho

end Cert.RowMax

end
-- ==== Proof.Launch.lean ====
/-
# The whole program on the mesh

The pipeline around the body stages each device's block of `x` in, runs the body once and writes the result back.  This
module gives the pipeline its data (`dats`), proves the body's obligation from `body_run`, deals the exchange's ghost
state to the four devices and applies the launch theorem.  `run_main` is its outcome: from any memory every fair run
ends, with every counter at zero, `x` as it was and the result array at `outAt`.
-/
module

public import proofs.«01_k».proof.Proof.Body
public import Idealize.ShloMosaic.Lib.Pipeline.CollectiveSegs

@[expose] public section

noncomputable section

namespace Cert.RowMax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (m : (ℓ : Loc nD τ sig) → Buf (Elt F) ℓ) (ρ : Dev nD → PrngReg)

/-! ## The pipeline's data and the body's obligation -/

/-- What the pipeline needs to know of device `c`: the arrays at the start, what the body leaves in the staging buffers,
    what it holds before and after, and what it owes. -/
def dats (_ : Fin 1) (c : Dev nD) : Dat τ (Elt F) Unit ℕ Ghost ℕ cfg0 c where
  A w := m ((cfg0.win w).arr.view.loc (c : Thread nD τ))
  after w _ := match w with
    | ⟨0, _⟩ => xBlk m c
    | ⟨1, _⟩ => outAt m c
  Φ t := match t with
    | ⟨0, _⟩ => opening m c
    | ⟨_ + 1, _⟩ => closing m c
  q _ := fullShare
  owed t := match t with
    | ⟨0, _⟩ => owesAll c
    | ⟨_ + 1, _⟩ => 0

/-- The body finds the device's block of `x` staged. -/
theorem staged_in (c : Dev nD) (d) : (dats m 0 c).before (0 : Fin 2) t0_0 d = xBlk m c := by
  unfold Dat.before
  rw [if_pos (fetch0_0 t0_0)]
  rfl

set_option maxRecDepth 4000 in
/-- The body does what the pipeline asks of it. -/
theorem body_obligation (c : Dev nD) : BodyObligation (dats m 0 c) (defs₀ (F := F)) Variants.none () Set.univ := fun t => by
  rw [fin_N0 t, bigSep_W0, bigSep_W0]
  show iprop(opening m c ∗ (dats m 0 c).owesAt () t0_0.castSucc
      ∗ (∃ d, owns (c : Thread nD τ) xRef fullShare ((dats m 0 c).before (0 : Fin 2) t0_0 d))
      ∗ ∃ d, owns (c : Thread nD τ) oRef fullShare ((dats m 0 c).before (1 : Fin 2) t0_0 d))
    ⊢ wp frame (wpE (defs₀ (F := F)) Variants.none c none) Set.univ
        (cc0_body xRef (Memref.isWhole_whole _) oRef (Memref.isWhole_whole _) mineRef (Memref.isWhole_whole _) theirsRef (Memref.isWhole_whole _) cc0_scratch2 cc0_scratch3)
        (fun _ => iprop(closing m c ∗ (dats m 0 c).owesAt () t0_0.succ
          ∗ owns (c : Thread nD τ) xRef fullShare (xBlk m c) ∗ owns (c : Thread nD τ) oRef fullShare (outAt m c)))
  simp only [owns_whole, staged_in]
  unfold opening start Dat.owesAt Pipeline.owesWithin
  iintro ⟨⟨⟨⟨%K, #HK, Hp, Hr⟩, Hi, Hl⟩, ⟨%f2, Hm⟩, ⟨%f3, Ht⟩⟩, ⟨%W, -, HO⟩, ⟨%_, Hx⟩, ⟨%d, Ho⟩⟩
  iapply (body_run m K c W _ f2 f3 _)
  isplitl [Hp Hr Hi Hl Hm Ht HO Hx Ho]
  · isplitr; · iexact HK
    isplitl [Hp]; · iexact Hp
    isplitl [Hr]; · iexact Hr
    isplitl [Hi]; · iexact Hi
    isplitl [Hl]; · iexact Hl
    isplitl [HO]; · iexact HO
    isplitl [Hx]; · iexact Hx
    isplitl [Ho]; · iexact Ho
    unfold mineAt theirsAt
    isplitl [Hm]; · iexact Hm
    iexact Ht
  iintro ⟨Hc, ⟨%W', HO⟩, Hx, Ho⟩
  isplitl [Hc]; · iexact Hc
  isplitl [HO]
  · iexists W'
    isplitr; · ipureintro; exact fun _ _ => Or.inl trivial
    iexact HO
  isplitl [Hx]; · iexact Hx
  iexact Ho

/-! ## Dealing the exchange's ghost state -/

/-- Something held for every counter is held for each of the three. -/
theorem bigSep_ctr (Φ : Ctr → sProp 𝕄) : bigSep Finset.univ Φ = iprop(Φ .bar ∗ Φ .dep ∗ Φ .arr) :=
  bigSep_univ_eq_bigSepL [Ctr.bar, Ctr.dep, Ctr.arr] (by decide) (by decide) Φ

/-- All counters of the exchange. -/
def exchCells : Finset (GSem nD τ sig) :=
  Finset.univ.map ⟨fun p : Dev nD × Ctr => cell p.1 p.2, fun _ _ h => Prod.ext (cell_inj h).1 (cell_inj h).2⟩
/-- The payment due at each counter. -/
def exchDuties : Finset (GSem nD τ sig × ℕ × Unit) :=
  Finset.univ.map ⟨fun p : Dev nD × Ctr => (cell p.1 p.2, 0, ()), fun _ _ h =>
    have h' := congrArg (fun x : GSem nD τ sig × ℕ × Unit => x.1) h
    Prod.ext (cell_inj h').1 (cell_inj h').2⟩

/-- The ghost element the run starts from: the pipeline's and the exchange's. -/
def ghost₀ : Ghost :=
  (initOf (Pipeline.cells cfgs cellOf_inj) (Pipeline.launchToks cfgs cellOf_inj), initOf exchCells exchDuties)

/-- What that gives for one counter: its round state, the position and the freshness at it, and the right to pay it. -/
def dealt (p : Dev nD × Ctr) : sProp 𝕄 :=
  iprop(roundState exchG (sched m) (cell p.1 p.2) 0 ∗ atPos exchG (cell p.1 p.2) 0 ∅ 0
    ∗ reached exchG (cell p.1 p.2) 0 ∗ dutyTok exchG (cell p.1 p.2) 0 ())

/-- The same once the counter's value has joined the round state in an invariant. -/
def dealt' (p : Dev nD × Ctr) : sProp 𝕄 :=
  iprop((∃ κ : ℕ, cellInv exchG (sched m) κ (cell p.1 p.2)) ∗ atPos exchG (cell p.1 p.2) 0 ∅ 0
    ∗ reached exchG (cell p.1 p.2) 0 ∗ dutyTok exchG (cell p.1 p.2) 0 ())

/-- What device `c` has in the end, the debts and credits apart. -/
def share (c : Dev nD) : sProp 𝕄 := iprop(∃ K, records m K ∗ positions c ∗ payRights c)

/-- The exchange's part of the starting ghost element deals every counter its share. -/
theorem deal : BI.own (exchG (initOf exchCells exchDuties))
    ⊢ (|==> bigSep Finset.univ fun c : Dev nD => bigSep Finset.univ fun k : Ctr => dealt m (c, k) : sProp 𝕄) := by
  have hC (Φ : GSem nD τ sig → sProp 𝕄) : bigSep exchCells Φ = bigSep Finset.univ fun p : Dev nD × Ctr => Φ (cell p.1 p.2) := bigSep_map _
  have hD (Φ : GSem nD τ sig × ℕ × Unit → sProp 𝕄) : bigSep exchDuties Φ = bigSep Finset.univ fun p : Dev nD × Ctr => Φ (cell p.1 p.2, 0, ()) := bigSep_map _
  rw [← bigSep_univ_prod (fun p : Dev nD × Ctr => dealt m p)]
  unfold dealt
  rw [bigSep_sep', bigSep_sep', bigSep_sep']
  refine (Rounds.fund exchG (sched m) exchCells exchDuties).trans (BI.bupd_mono ?_)
  rw [hC, hC, hC, hD]
  show _ ⊢ (_ : sProp 𝕄)
  iintro ⟨H1, H2, H3, H4⟩
  isplitl [H1]; · iexact H1
  isplitl [H3]; · iexact H3
  isplitl [H2]; · iexact H2
  iexact H4

/-- The kernel's own two semaphores. -/
abbrev ownSem : Fin 2 → SemLoc sig := fun | 0 => Ctr.dep.sem | 1 => Ctr.arr.sem

/-- Those two are not the pipeline's. -/
theorem ownSemFacts : Pipeline.OwnSemFacts cfg0.spec ownSem := by decide

/-- The kernel's own semaphores at zero are the departure and arrival counters at zero. -/
theorem ownSems0_eq (c : Dev nD) : (Pipeline.ownSems0 (Ix := Unit) (Name := ℕ) (U := Ghost) (Lvl := ℕ) (Val := Elt F) (τ := τ) ownSem c : sProp 𝕄)
    = iprop(semVal (cell c .dep) 0 ∗ semVal (cell c .arr) 0) := by
  rw [Pipeline.ownSems0_eq_of_list c ownSem [0, 1] (by decide) (by decide)]; rfl

/-- The one semaphore outside the call is the barrier's. -/
theorem unscopedSems0_eq (c : Dev nD) : (unscopedSems0 c : sProp 𝕄) = semVal (cell c .bar) 0 := by
  unfold unscopedSems0; rw [bigSep_eq_bigSepL_of_eq [Ctr.bar.sem] (by decide) (by decide)]; rfl

/-- A device's three counters at zero, with what was dealt for them, become three invariants. -/
theorem alloc_device (c : Dev nD) :
    iprop(Pipeline.ownSems0 (Ix := Unit) (Name := ℕ) (U := Ghost) (Lvl := ℕ) (Val := Elt F) (τ := τ) ownSem c ∗ unscopedSems0 c
        ∗ bigSep Finset.univ fun k : Ctr => dealt m (c, k))
      ⊢ |={Set.univ}=> bigSep Finset.univ fun k : Ctr => dealt' m (c, k) := by
  have hsem : iprop(Pipeline.ownSems0 (Ix := Unit) (Name := ℕ) (U := Ghost) (Lvl := ℕ) (Val := Elt F) (τ := τ) ownSem c ∗ unscopedSems0 c)
      ⊢ (bigSep Finset.univ fun k : Ctr => semVal (cell c k) 0 : sProp 𝕄) := by
    rw [ownSems0_eq, unscopedSems0_eq, bigSep_ctr]
    iintro ⟨⟨Hd, Ha⟩, Hb⟩
    isplitl [Hb]; · iexact Hb
    isplitl [Hd]; · iexact Hd
    iexact Ha
  have hone (k : Ctr) : iprop(semVal (cell c k) 0 ∗ dealt m (c, k)) ⊢ (|={Set.univ}=> dealt' m (c, k) : sProp 𝕄) := by
    unfold dealt dealt'
    iintro ⟨Hv, Hs, Hrest⟩
    imod ((Rounds.body_intro exchG (sched m) (cell c k)).trans inv_alloc) $$ [Hv Hs] with Hi
    · isplitl [Hv]; · iexact Hv
      iexact Hs
    imodintro
    isplitl [Hi]; · iexact Hi
    iexact Hrest
  have hjoin : iprop(Pipeline.ownSems0 (Ix := Unit) (Name := ℕ) (U := Ghost) (Lvl := ℕ) (Val := Elt F) (τ := τ) ownSem c ∗ unscopedSems0 c
        ∗ bigSep Finset.univ fun k : Ctr => dealt m (c, k))
      ⊢ (bigSep Finset.univ fun k : Ctr => iprop(semVal (cell c k) 0 ∗ dealt m (c, k)) : sProp 𝕄) := by
    rw [bigSep_sep']
    iintro ⟨Ho, Hu, Hd⟩
    isplitl [Ho Hu]
    · iapply hsem
      isplitl [Ho]; · iexact Ho
      iexact Hu
    iexact Hd
  exact hjoin.trans ((bigSep_mono fun k _ => hone k).trans (bigSep_fupd _ _))

/-- The rights to pay, one per counter of every device, go to whom they belong: across each pair for the barriers and
    the arrivals. -/
theorem pass_rights : (bigSep Finset.univ fun p : Dev nD × Ctr => (dutyTok exchG (cell p.1 p.2) 0 () : sProp 𝕄))
    ⊢ bigSep Finset.univ fun c : Dev nD => payRights c := by
  have hrow (c : Dev nD) : (bigSep Finset.univ fun k : Ctr => (dutyTok exchG (cell c k) 0 () : sProp 𝕄))
      = iprop(dutyTok exchG (cell c .bar) 0 () ∗ dutyTok exchG (cell c .dep) 0 () ∗ dutyTok exchG (cell c .arr) 0 ()) := bigSep_ctr _
  unfold payRights
  rw [bigSep_univ_prod]
  simp only [hrow]
  rw [bigSep_sep', bigSep_sep', bigSep_sep', bigSep_sep',
    bigSep_univ_equiv swap fun c : Dev nD => (dutyTok exchG (cell c .bar) 0 () : sProp 𝕄),
    bigSep_univ_equiv swap fun c : Dev nD => (dutyTok exchG (cell c .arr) 0 () : sProp 𝕄)]
  exact BI.Entails.refl _

/-- All invariants become known to every device, and each keeps its positions and its rights. -/
theorem regroup : (bigSep Finset.univ fun c : Dev nD => bigSep Finset.univ fun k : Ctr => dealt' m (c, k)) ⊢ bigSep Finset.univ (share m) := by
  have hpos : (bigSep Finset.univ fun p : Dev nD × Ctr => (atPos exchG (cell p.1 p.2) 0 ∅ 0 : sProp 𝕄)) = bigSep Finset.univ fun c : Dev nD => positions c := by
    rw [bigSep_univ_prod]
    exact bigSep_congr fun c _ => bigSep_ctr _
  have hshare (K) : iprop(records m K ∗ (bigSep Finset.univ fun c : Dev nD => positions c) ∗ bigSep Finset.univ fun c : Dev nD => payRights c)
      ⊢ (bigSep Finset.univ (share m) : sProp 𝕄) := by
    rw [← bigSep_sep']
    refine (sep_mono_left (BI.bigSep_of_persistent (Finset.univ : Finset (Dev nD)) (records m K))).trans ?_
    rw [← bigSep_sep']
    exact bigSep_mono fun c _ => show _ ⊢ (_ : sProp 𝕄) by
      unfold share
      iintro H
      iexists K
      iexact H
  rw [← bigSep_univ_prod (fun p : Dev nD × Ctr => dealt' m p)]
  unfold dealt'
  rw [bigSep_sep', bigSep_sep', bigSep_sep', hpos]
  iintro ⟨Hi, Hp, #Hr, Ht⟩
  ihave HK := (BI.bigSep_exists_pi Finset.univ fun (p : Dev nD × Ctr) (κ : ℕ) => (cellInv exchG (sched m) κ (cell p.1 p.2) : sProp 𝕄)) $$ Hi
  icases HK with ⟨%K, #Hi⟩
  ihave Ht := (pass_rights (F := F)) $$ Ht
  iapply (hshare K)
  isplitr
  · unfold records
    isplitr; · iexact Hi
    iexact Hr
  isplitl [Hp]; · iexact Hp
  iexact Ht

/-- The step that uses every device's counters at once. -/
theorem settle : (bigSep Finset.univ fun c : Dev nD => iprop(Pipeline.ownSems0 (Ix := Unit) (Name := ℕ) (U := Ghost) (Lvl := ℕ) (Val := Elt F) (τ := τ) ownSem c ∗ unscopedSems0 c
      ∗ bigSep Finset.univ fun k : Ctr => dealt m (c, k)) : sProp 𝕄)
    ⊢ |={Set.univ}=> bigSep Finset.univ (share m) :=
  ((bigSep_mono fun c _ => alloc_device m c).trans (bigSep_fupd _ _)).trans (BI.fupd_mono (regroup m))

/-- What the peers owe a device is what it may wait for. -/
theorem credits (c : Dev nD) : (Pipeline.launchCred owesAll c : sProp 𝕄) ⊢ incoming c := by
  unfold owesAll incoming
  rw [Pipeline.launchCred_add]
  iintro ⟨Ha, Hb⟩
  isplitl [Hb]
  · iapply (Pipeline.launchCred_tallyAt Ctr.bar.sem peer peer peer_peer peer_peer () 1 c); iexact Hb
  · iapply (Pipeline.launchCred_tallyAt Ctr.arr.sem peer peer peer_peer peer_peer () unitsOf c); iexact Ha

/-! ## The conditions of the launch theorem -/

/-- What the launch hands a device is `start`. -/
theorem start_intro (c : Dev nD) :
    iprop(Pipeline.unscopedRestP Pipeline.Prefetch.none cfg0.spec c (fun b => m ((c : Thread nD τ).loc b)) ∗ levAts idxs lv
        ∗ Pipeline.launchCred owesAll c ∗ prngReg c (ρ c) ∗ share m c)
      ⊢ |={Set.univ}=> iprop(start m c ∗ emp) := by
  iintro ⟨-, Hl, Hc, -, Hs⟩
  ihave Hi := (credits (F := F) c) $$ Hc
  imodintro
  unfold start share
  isplitl
  · isplitl [Hs]; · iexact Hs
    isplitl [Hi]; · iexact Hi
    iexact Hl
  · iempintro

/-- With the call's scratch buffers that is what the body starts from. -/
theorem open_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = opening m c from rfl, scopedRest0_eq]
  unfold opening
  iintro ⟨Hs, -, Hb⟩
  isplitl [Hs]; · iexact Hs
  iexact Hb

/-- What the body ends with gives the semaphores back at zero, and the scratch buffers. -/
theorem close_elim (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = closing m c from rfl, scopedRest0_eq, ownSems0_eq, unscopedSems0_eq]
  unfold closing mineAt theirsAt
  iintro ⟨Hm, Ht, Zb, Zd, Za⟩
  isplitl [Zb]; · iexact Zb
  isplitl [Zd Za]
  · isplitl [Zd]; · iexact Zd
    iexact Za
  isplitl [Hm]
  · iexists part m c; iexact Hm
  · iexists part m (peer c); iexact Ht

/-- The pipeline's own waits are allowed, both with the debt before the body and with none after it. -/
theorem stage_waits (c : Dev nD) : (levAts idxs lv : sProp 𝕄) ⊢ Pipeline.cellsWaits cfgs (dats m) () 0 c :=
  Pipeline.cellsWaits_intro cfgs (dats m) () 0 c fun w s t =>
    mayWait_other c _ (by fin_cases w <;> fin_cases s <;> decide) _ (by
      rcases t with ⟨_ | _, ht⟩
      · exact Or.inl rfl
      · exact Or.inr rfl)

/-! ## The arrays at the end -/

/-- The result array ends at what the body leaves. -/
theorem result_end (c : Dev nD) : (dats m 0 c).arrAt (1 : Fin 2) cfg0.N = outAt m c :=
  (dats m 0 c).arrAt_eq_of_after_last (1 : Fin 2) t0_0 (by decide +kernel) _ fun _ => rfl

/-- `x` ends as it was. -/
theorem input_end (c : Dev nD) : (dats m 0 c).arrAt (0 : Fin 2) cfg0.N = m ((c : Thread nD τ).loc main_arg0) :=
  (dats m 0 c).arrAt_in (0 : Fin 2) rfl _

set_option maxRecDepth 8000 in
/-- From any memory with the counters at zero, every fair run of the program on the four devices ends, and then every
    counter is at zero, every device's block of `x` is as it was and its result is `outAt`. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v1) = outAt m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) pipeG defs₀ Variants.none m ρ main
    (hmain := fun _ => rfl)
    (hbody := fun c => body_obligation m c) (hne := block_pos0) (harr := arr_whole0) (hstage := stage_whole0)
    (hshare := fun c w => by unfold Dat.share; split <;> rfl)
    (hdistinct := winFacts0.arr_inj)
    (O₀ := owesAll) (howed₀ := fun _ => rfl) (howedN := fun _ => rfl)
    (L := idxs) (lv := lv) (hL := fun _ h => if_neg h) (hwaits := stage_waits m)
    (G := fun c => bigSep Finset.univ fun k : Ctr => dealt m (c, k)) (G' := share m) (u₀ := ghost₀)
    (hu₀ := by
      unfold ghost₀
      iintro Hu
      ihave H := (ownU_pair _ _) $$ Hu
      icases H with ⟨Hp, He⟩
      imod (deal m) $$ He with Hd
      imodintro
      isplitl [Hp]; · iexact Hp
      iexact Hd)
    (hglob := settle m)
    (hA := fun _ _ => rfl) (hpf := fun _ k => k.elim0)
    (X := start m) (Y := fun c => unscopedSems0 c) (Z := fun _ => iprop(emp))
    (hX := start_intro m ρ) (hin := open_intro m) (hout := close_elim m)
    (QY := fun c s => ∀ sm : SemLoc sig, sm.isScoped .tc = false → s.sem ((c.tc : Thread nD τ), sm) = 0)
    (hY := fun c s' => by
      iintro ⟨Hu, -, Hs⟩
      iapply (Pipeline.unscopedSems0_read (X := unscopedSems0 c) (c := c) fupd_intro s')
      isplitl [Hu]; · iexact Hu
      iexact Hs)
    (hQ := fun _ h hs => ⟨fun c => ⟨((h c).1 (0 : Fin 2)).trans (input_end m c), ((h c).1 (1 : Fin 2)).trans (result_end m c)⟩,
      sem_eq_zero hs fun c => (h c).2.2⟩)

end Cert.RowMax

end
-- ==== Proof.Value.lean ====
/-
# The value: maxima of two halves are maxima of whole rows

Over exact real arithmetic a maximum is told by its upper bounds: it is at most `e` exactly when every number it is
taken of is.  Read that way, an entry of a device's result bounds the 512 numbers of its own half of a row and the 512
of its peer's, and an entry of the reference bounds all 1024 numbers of the row; the two halves are the row.
-/
module

public import proofs.«01_k».proof.Proof.Result
public import proofs.«01_k».proof.Proof.Gen.ReferenceIdeal.Run
public import Idealize.ShloMosaic.Lib.ValueIdx
public import Idealize.ShloMosaic.PureOps.Ideal.Laws

@[expose] public section

noncomputable section

namespace Cert.RowMax

open Cert.KernelIdeal Cert.KernelIdeal.Gen
open Idealize.ShloMosaic Idealize.ShloMosaic.TcCoe
open Idealize.ShloMosaic.ValueIdx (ix1 ix2)

/-- The number every maximum starts from. -/
abbrev low : Ideal .f32 := FloatOps.ofBits .f32 0xFF800000#32

/-- The pipeline stages a device's whole block of `x`. -/
theorem xBlk_eq {F : FTy → Type} [FloatOps F] (m : (ℓ : Loc nD τ sig) → Buf (Elt F) ℓ) (c : Dev nD) :
    xBlk m c = m ((c : Thread nD τ).loc main_arg0) := by
  funext i
  refine congrArg (m ((c : Thread nD τ).loc main_arg0)) (funext fun a => Fin.ext ?_)
  match a with
  | ⟨0, _⟩ => show 0 * 1024 + 1 * (i 0).val = (i 0).val; omega
  | ⟨1, _⟩ => show 0 * 512 + 1 * (i 1).val = (i 1).val; omega

/-- A maximum is at most `e` exactly when its start and everything it is taken of are. -/
theorem fold_le {n : ℕ} (f : Fin n → EReal) (b e : EReal) :
    (Finset.univ : Finset (Fin n)).fold max b f ≤ e ↔ b ≤ e ∧ ∀ k, f k ≤ e :=
  (Finset.fold_max_le _).trans (and_congr_right fun _ => ⟨fun h k => h k (Finset.mem_univ _), fun h k _ => h k⟩)

/-- Entry `(g, l)` of a block's row maxima is at most `e` exactly when row `128 g + l` of the block is (and the start). -/
theorem rowMax_le (x : FVec Ideal S1024x512 .f32) (g : Fin 8) (l : Fin 128) (e : EReal) :
    k0_pay10 (F := Ideal) x (ix2 g l) ≤ e ↔ low ≤ e ∧ ∀ k : Fin 512, x (ix2 ⟨128 * g.val + l.val, by omega⟩ k) ≤ e := by
  let v : FVec Ideal S8x128x512 .f32 := shapeCast S8x128x512 (shapeCast S1024x512 x shapeCasts_S1024x512_S1024x512) shapeCasts_S1024x512_S8x128x512
  have hin (k : Fin 512) : v (reduces_S8x128x512_S8x128.lift (ix2 g l) k) = x (ix2 ⟨128 * g.val + l.val, by omega⟩ k) := by
    refine (shapeCast_apply _ _ _ (ix2 ⟨128 * g.val + l.val, by omega⟩ k) ?_).trans (shapeCast_apply x _ _ _ rfl)
    rw [Shape.rowMajor_val_two, Shape.rowMajor_val_three]
    show (128 * g.val + l.val) * 512 + k.val = (g.val * 128 + l.val) * 512 + k.val
    omega
  have hfold : multiReduction .maximumf [2] S8x128 v 0xFF800000#32 reduces_S8x128x512_S8x128 (.inl rfl) rfl (ix2 g l)
      = (Finset.univ : Finset (Fin 512)).fold max low (v ∘ reduces_S8x128x512_S8x128.lift (ix2 g l)) :=
    Ideal.multiReduction_maximumf_single v _ _ _ _ _
  have hsame (w : FVec Ideal S8x128 .f32) : shapeCast S8x128 w shapeCasts_S8x128_S8x128 = w := funext fun i => shapeCast_apply w _ i i rfl
  have hcast : k0_pay10 (F := Ideal) x = multiReduction .maximumf [2] S8x128 v 0xFF800000#32 reduces_S8x128x512_S8x128 (.inl rfl) rfl :=
    hsame _
  refine (iff_of_eq (congrArg (· ≤ e) ((congrFun hcast _).trans hfold))).trans ((fold_le _ _ _).trans (and_congr_right fun _ => forall_congr' fun k => ?_))
  exact iff_of_eq (congrArg (· ≤ e) (hin k))

/-- Row `y` of a device's result is at most `e` exactly when row `y` of its block and of its peer's are (and the start). -/
theorem out_le (a b : FVec Ideal S1024x512 .f32) (y : S1024x1.Idx) (e : EReal) :
    (outOf (F := Ideal) (k0_pay10 (F := Ideal) a) (k0_pay10 (F := Ideal) b) y : EReal) ≤ e
      ↔ low ≤ e ∧ (∀ k : Fin 512, a (ix2 (y 0) k) ≤ e) ∧ ∀ k : Fin 512, b (ix2 (y 0) k) ≤ e := by
  have hy : (y 0).val < 1024 := (y 0).isLt
  have hrow (h) : (⟨128 * ((y 0).val / 128) + (y 0).val % 128, h⟩ : Fin 1024) = y 0 := Fin.ext (Nat.div_add_mod _ _)
  unfold outOf spot
  rw [ValueIdx.maximumf_apply, max_le_iff, rowMax_le, rowMax_le]
  simp only [hrow]
  tauto

/-- The reference's result of `x`. -/
abbrev refOut (x : FVec Ideal Cert.ReferenceIdeal.S2048x1024 .f32) : FVec Ideal Cert.ReferenceIdeal.S2048x1 .f32 :=
  broadcastInDim Cert.ReferenceIdeal.S2048x1 ![0] Cert.ReferenceIdeal.Gen.facts.bcast_S2048_S2048x1_0
    (Host.reduce FloatOps.maximumf x (constant Cert.ReferenceIdeal.S_ .f32 0xFF800000#32) Cert.ReferenceIdeal.Gen.facts.reducesTo_S2048x1024_S2048_d1 Cert.ReferenceIdeal.Gen.facts.h_S_)

/-- Row `y` of the reference's result is at most `e` exactly when row `y` of `x` is (and the start). -/
theorem ref_le (x : FVec Ideal Cert.ReferenceIdeal.S2048x1024 .f32) (y : Cert.ReferenceIdeal.S2048x1.Idx) (e : EReal) :
    refOut x y ≤ e ↔ low ≤ e ∧ ∀ k : Fin 1024, x (ix2 (y 0) k) ≤ e := by
  have hred : Cert.ReferenceIdeal.S2048x1024.Reduces [1] Cert.ReferenceIdeal.S2048 := by decide
  have hin (k : Fin 1024) : hred.lift (ix1 (y 0)) k = ix2 (y 0) k := by
    funext a; match a with | ⟨0, _⟩ => rfl | ⟨1, _⟩ => rfl
  have hfold : refOut x y = (Finset.univ : Finset (Fin 1024)).fold max low (x ∘ hred.lift (ix1 (y 0))) :=
    (broadcastInDim_apply _ _ _ y (ix1 (y 0)) (fun a => by match a with | ⟨0, _⟩ => rfl)).trans
      (Host.reduce_eq_fold_single (FloatOps.maximumf (F := Ideal) (φ := .f32)) x _ _ hred _ _)
  refine (iff_of_eq (congrArg (· ≤ e) hfold)).trans ((fold_le _ _ _).trans (and_congr_right fun _ => forall_congr' fun k => ?_))
  exact iff_of_eq (congrArg (fun i => (x i : EReal) ≤ e) (hin k))

/-- If every device holds its block of `x`, every device's result is its block of the reference's result. -/
theorem out_eq (m : (ℓ : Loc nD τ sig) → Buf (Elt Ideal) ℓ) (x : FVec Ideal Cert.ReferenceIdeal.S2048x1024 .f32)
    (hx : ∀ c : Dev nD, m ((c : Thread nD τ).loc main_arg0)
      = Layout.blockN ⟨2, ![1024, 512]⟩ ⟨2, ![2048, 1024]⟩ (Layout.meshBlock [2, 2] ![[0], [1]] c) x) (c : Dev nD) :
    outAt m c = Layout.blockN ⟨2, ![1024, 1]⟩ ⟨2, ![2048, 1]⟩ (Layout.meshBlock [2, 2] ![[0], []] c) (refOut x) := by
  funext y
  have hc : c.val < 4 := c.isLt
  have hy : (y 0).val < 1024 := (y 0).isLt
  -- the entry of `x` that device `d` holds in row `y`, column `k` of its block
  have hat (d : Dev nD) (hd : d.val / 2 = c.val / 2) (k : Fin 512) :
      xBlk m d (ix2 (y 0) k) = x (ix2 ⟨c.val / 2 * 1024 + (y 0).val, by omega⟩ ⟨d.val % 2 * 512 + k.val, by omega⟩) := by
    rw [xBlk_eq, hx d]
    show x _ = x _
    congr 1
    funext a
    match a with
    | ⟨0, _⟩ => apply Fin.ext; show (d.val / 2) % 2 * 1 * 1024 + (y 0).val = c.val / 2 * 1024 + (y 0).val; omega
    | ⟨1, _⟩ => apply Fin.ext; show d.val / 1 % 2 * 1 * 512 + k.val = d.val % 2 * 512 + k.val; omega
  have hp : (peer c).val = 2 * (c.val / 2) + 1 - c.val % 2 := rfl
  refine eq_of_forall_ge_iff (α := EReal) fun e => ?_
  show (outOf (F := Ideal) (k0_pay10 (F := Ideal) (xBlk m c)) (k0_pay10 (F := Ideal) (xBlk m (peer c))) y : EReal) ≤ e ↔ (refOut x _ : EReal) ≤ e
  rw [out_le, ref_le]
  have hcol (d : Dev nD) (hd : d.val / 2 = c.val / 2) : (∀ k : Fin 512, ((show Ideal .f32 from xBlk m d (ix2 (y 0) k)) : EReal) ≤ e)
      ↔ ∀ k : Fin 1024, k.val / 512 = d.val % 2 → (x (ix2 ⟨c.val / 2 * 1024 + (y 0).val, by omega⟩ k) : EReal) ≤ e := by
    refine ⟨fun h k hk => ?_, fun h k => ?_⟩
    · have h' := h ⟨k.val % 512, Nat.mod_lt _ (by decide)⟩
      rw [hat d hd] at h'
      have hk' : (⟨d.val % 2 * 512 + k.val % 512, by omega⟩ : Fin 1024) = k := Fin.ext (by show d.val % 2 * 512 + k.val % 512 = k.val; omega)
      rwa [hk'] at h'
    · rw [hat d hd]
      exact h _ (by show (d.val % 2 * 512 + k.val) / 512 = d.val % 2; omega)
  have hrow : (Layout.TilesN.idx (S := ⟨2, ![1024, 1]⟩) (T := ⟨2, ![2048, 1]⟩) (by decide) (Layout.meshBlock [2, 2] ![[0], []] c) y) 0
      = (⟨c.val / 2 * 1024 + (y 0).val, by omega⟩ : Fin 2048) :=
    Fin.ext (by show (c.val / 2) % 2 * 1 * 1024 + (y 0).val = c.val / 2 * 1024 + (y 0).val; omega)
  rw [hcol c rfl, hcol (peer c) (by omega), hrow]
  refine and_congr_right fun _ => ⟨fun ⟨ha, hb⟩ k => ?_, fun h => ⟨fun k _ => h k, fun k _ => h k⟩⟩
  have hk := k.isLt
  by_cases hkc : k.val / 512 = c.val % 2
  · exact ha k hkc
  · exact hb k (by omega)

end Cert.RowMax

end
-- ==== Proof.lean ====
/-
# The certificate

One kernel, a row maximum on a 2 by 2 mesh, and its reference.  `run_main` (Proof/Launch.lean) is proved for any float
values; read at the machine's words it is the frame of the kernel, read at the exact reals the frame of its
idealization, and with `out_eq` (Proof/Value.lean) the comparison with the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.RowMax

/-- The printed kernel and its idealization have the same bodies. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc ?_
  funext ℓ x
  match ℓ, x with
  | ⟨0, _⟩, (t, s) => rfl

/-- So they have the same table of definitions. -/
theorem defs_eq {F : FTy → Type} [FloatOps F] : Cert.Kernel.defs (F := F) = Cert.KernelIdeal.defs (F := F) :=
  congrArg (Pipeline.defs Cert.KernelIdeal.pcfgs) bodies_eq

/-- The kernel ends on the machine's words with its argument as it was and every counter at zero. -/
theorem frame_kernel : Cert.quiescent_Kernel (hKernel := Cert.Kernel.Gen.facts) := fun m g _ => by
  rw [defs_eq]
  exact (θ_run (Cert.KernelIdeal.defs (F := Bits)) _ _).mono (fun _ h => ⟨fun c => (h.1 c).1, h.2⟩) (run_main (F := Bits) m g)

/-- The same over the exact reals. -/
theorem frame_ideal : Cert.quiescent_KernelIdeal (hKernelIdeal := Cert.KernelIdeal.Gen.facts) := fun m g _ =>
  (θ_run Cert.KernelIdeal.defs _ _).mono (fun _ h => ⟨fun c => (h.1 c).1, h.2⟩) (run_main (F := Ideal) m g)

/-- The reference ends with its argument as it was; it has no counter. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.ReferenceIdeal.Value.run (F := Ideal) m g)

/-- Every device's result is its block of the reference's result. -/
theorem value : Cert.algebraic_KernelIdeal_ReferenceIdeal (hKernelIdeal := Cert.KernelIdeal.Gen.facts)
    (hReferenceIdeal := Cert.ReferenceIdeal.Gen.facts) := by
  intro m g m' g' _ hx
  have hout := out_eq m _ hx
  exact ⟨refOut (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).2.trans (hout c), (h.1 c).1⟩) (run_main (F := Ideal) m g),
    (θ_run Cert.ReferenceIdeal.defs _ _).mono (fun _ h => h 0) (Cert.ReferenceIdeal.Value.run (F := Ideal) m' g')⟩

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
